-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "r255" .f32 0x3B808081#32 ((255⁻¹ : ℝ) : EReal)
  ∧ IdealRules.named_const.Statement Cert.KernelIdeal.κ "r20" .f32 0x3D4CCCCD#32 ((20⁻¹ : ℝ) : EReal)
  ∧ IdealRules.named_const.Statement Cert.KernelIdeal.κ "r200" .f32 0x3BA3D70A#32 ((200⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x5 : Shape := ⟨2, ![4096, 5]⟩
abbrev S3584x5 : Shape := ⟨2, ![3584, 5]⟩
abbrev S3072x5 : Shape := ⟨2, ![3072, 5]⟩
abbrev S2560x5 : Shape := ⟨2, ![2560, 5]⟩
abbrev S2048x5 : Shape := ⟨2, ![2048, 5]⟩
abbrev S1536x5 : Shape := ⟨2, ![1536, 5]⟩
abbrev S1024x5 : Shape := ⟨2, ![1024, 5]⟩
abbrev S512x5 : Shape := ⟨2, ![512, 5]⟩
abbrev S8x4096x5 : Shape := ⟨3, ![8, 4096, 5]⟩
abbrev S1x4096x5 : Shape := ⟨3, ![1, 4096, 5]⟩
abbrev S1x5 : Shape := ⟨2, ![1, 5]⟩
abbrev S1x3584x5 : Shape := ⟨3, ![1, 3584, 5]⟩
abbrev S1x512x5 : Shape := ⟨3, ![1, 512, 5]⟩
abbrev S1x3072x5 : Shape := ⟨3, ![1, 3072, 5]⟩
abbrev S1x1024x5 : Shape := ⟨3, ![1, 1024, 5]⟩
abbrev S1x2560x5 : Shape := ⟨3, ![1, 2560, 5]⟩
abbrev S1x1536x5 : Shape := ⟨3, ![1, 1536, 5]⟩
abbrev S1x2048x5 : Shape := ⟨3, ![1, 2048, 5]⟩

abbrev nBuf : Space → Nat
  | .hbm => 9
  | .vmem => 10
  | .smem => 0
  | _ => 0

abbrev bufTy : (tb : Table) → Fin (tcTables nBuf tb) → BufTy
  | .hbm, ⟨0, _⟩ => ⟨S4096x5, .f32⟩
  | .hbm, ⟨1, _⟩ => ⟨S3584x5, .f32⟩
  | .hbm, ⟨2, _⟩ => ⟨S3072x5, .f32⟩
  | .hbm, ⟨3, _⟩ => ⟨S2560x5, .f32⟩
  | .hbm, ⟨4, _⟩ => ⟨S2048x5, .f32⟩
  | .hbm, ⟨5, _⟩ => ⟨S1536x5, .f32⟩
  | .hbm, ⟨6, _⟩ => ⟨S1024x5, .f32⟩
  | .hbm, ⟨7, _⟩ => ⟨S512x5, .f32⟩
  | .hbm, ⟨8, _⟩ => ⟨S8x4096x5, .f32⟩
  | .local _ .vmem, ⟨0, _⟩ => ⟨S4096x5, .f32⟩
  | .local _ .vmem, ⟨1, _⟩ => ⟨S3584x5, .f32⟩
  | .local _ .vmem, ⟨2, _⟩ => ⟨S3072x5, .f32⟩
  | .local _ .vmem, ⟨3, _⟩ => ⟨S2560x5, .f32⟩
  | .local _ .vmem, ⟨4, _⟩ => ⟨S2048x5, .f32⟩
  | .local _ .vmem, ⟨5, _⟩ => ⟨S1536x5, .f32⟩
  | .local _ .vmem, ⟨6, _⟩ => ⟨S1024x5, .f32⟩
  | .local _ .vmem, ⟨7, _⟩ => ⟨S512x5, .f32⟩
  | .local _ .vmem, ⟨8, _⟩ => ⟨S1x4096x5, .f32⟩
  | .local _ .vmem, ⟨9, _⟩ => ⟨S1x4096x5, .f32⟩
  | _, _ => ⟨S4096x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_7 : BitVec 32 := 0#32
  let v26 : BitVec 1 := Scalar.cmpi .ne v25 c0_i32_7
  v26

def k0_cond2 (i : grid0.Coords) : BitVec 1 :=
  let arg0 : BitVec 32 := BitVec.ofNat 32 (i 0).val
  let c1_i32_8 : BitVec 32 := 1#32
  let v27 : BitVec 1 := Scalar.cmpi .eq arg0 c1_i32_8
  let v28 : BitVec 32 := Scalar.extui v27
  let c0_i32_9 : BitVec 32 := 0#32
  let v29 : BitVec 1 := Scalar.cmpi .ne v28 c0_i32_9
  v29

def k0_cond3 (i : grid0.Coords) : BitVec 1 :=
  let arg0 : BitVec 32 := BitVec.ofNat 32 (i 0).val
  let c2_i32_10 : BitVec 32 := 2#32
  let v30 : BitVec 1 := Scalar.cmpi .eq arg0 c2_i32_10
  let v31 : BitVec 32 := Scalar.extui v30
  let c0_i32_11 : BitVec 32 := 0#32
  let v32 : BitVec 1 := Scalar.cmpi .ne v31 c0_i32_11
  v32

def k0_cond4 (i : grid0.Coords) : BitVec 1 :=
  let arg0 : BitVec 32 := BitVec.ofNat 32 (i 0).val
  let c3_i32_12 : BitVec 32 := 3#32
  let v33 : BitVec 1 := Scalar.cmpi .eq arg0 c3_i32_12
  let v34 : BitVec 32 := Scalar.extui v33
  let c0_i32_13 : BitVec 32 := 0#32
  let v35 : BitVec 1 := Scalar.cmpi .ne v34 c0_i32_13
  v35

def k0_cond5 (i : grid0.Coords) : BitVec 1 :=
  let arg0 : BitVec 32 := BitVec.ofNat 32 (i 0).val
  let c4_i32_14 : BitVec 32 := 4#32
  let v36 : BitVec 1 := Scalar.cmpi .eq arg0 c4_i32_14
  let v37 : BitVec 32 := Scalar.extui v36
  let c0_i32_15 : BitVec 32 := 0#32
  let v38 : BitVec 1 := Scalar.cmpi .ne v37 c0_i32_15
  v38

def k0_cond6 (i : grid0.Coords) : BitVec 1 :=
  let arg0 : BitVec 32 := BitVec.ofNat 32 (i 0).val
  let c5_i32 : BitVec 32 := 5#32
  let v39 : BitVec 1 := Scalar.cmpi .eq arg0 c5_i32
  let v40 : BitVec 32 := Scalar.extui v39
  let c0_i32_16 : BitVec 32 := 0#32
  let v41 : BitVec 1 := Scalar.cmpi .ne v40 c0_i32_16
  v41

def k0_cond7 (i : grid0.Coords) : BitVec 1 :=
  let arg0 : BitVec 32 := BitVec.ofNat 32 (i 0).val
  let c6_i32 : BitVec 32 := 6#32
  let v42 : BitVec 1 := Scalar.cmpi .eq arg0 c6_i32
  let v43 : BitVec 32 := Scalar.extui v42
  let c0_i32_17 : BitVec 32 := 0#32
  let v44 : BitVec 1 := Scalar.cmpi .ne v43 c0_i32_17
  v44

def k0_cond8 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_18 : BitVec 32 := 0#32
  let v47 : BitVec 1 := Scalar.cmpi .ne v46 c0_i32_18
  v47

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3584x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4096x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "r20" => some ((20⁻¹ : ℝ) : EReal)
  | "r200" => some ((200⁻¹ : ℝ) : EReal)
  | "r255" => some ((255⁻¹ : ℝ) : EReal)
  | _ => none
-- ==== ReferenceIdeal.lean ====
abbrev S4096x5 : Shape := ⟨2, ![4096, 5]⟩
abbrev S3584x5 : Shape := ⟨2, ![3584, 5]⟩
abbrev S3072x5 : Shape := ⟨2, ![3072, 5]⟩
abbrev S2560x5 : Shape := ⟨2, ![2560, 5]⟩
abbrev S2048x5 : Shape := ⟨2, ![2048, 5]⟩
abbrev S1536x5 : Shape := ⟨2, ![1536, 5]⟩
abbrev S1024x5 : Shape := ⟨2, ![1024, 5]⟩
abbrev S512x5 : Shape := ⟨2, ![512, 5]⟩
abbrev S5 : Shape := ⟨1, ![5]⟩
abbrev S1x5 : Shape := ⟨2, ![1, 5]⟩
abbrev S_ : Shape := ⟨0, ![]⟩
abbrev S1x4096x5 : Shape := ⟨3, ![1, 4096, 5]⟩
abbrev S8x4096x5 : Shape := ⟨3, ![8, 4096, 5]⟩

abbrev nBuf : Space → Nat
  | .hbm => 88
  | .vmem => 0
  | .smem => 0
  | _ => 0

abbrev bufTy : (tb : Table) → Fin (tcTables nBuf tb) → BufTy
  | .hbm, ⟨0, _⟩ => ⟨S4096x5, .f32⟩
  | .hbm, ⟨1, _⟩ => ⟨S3584x5, .f32⟩
  | .hbm, ⟨2, _⟩ => ⟨S3072x5, .f32⟩
  | .hbm, ⟨3, _⟩ => ⟨S2560x5, .f32⟩
  | .hbm, ⟨4, _⟩ => ⟨S2048x5, .f32⟩
  | .hbm, ⟨5, _⟩ => ⟨S1536x5, .f32⟩
  | .hbm, ⟨6, _⟩ => ⟨S1024x5, .f32⟩
  | .hbm, ⟨7, _⟩ => ⟨S512x5, .f32⟩
  | .hbm, ⟨8, _⟩ => ⟨S5, .f32⟩
  | .hbm, ⟨9, _⟩ => ⟨S5, .f32⟩
  | .hbm, ⟨10, _⟩ => ⟨S1x5, .f32⟩
  | .hbm, ⟨11, _⟩ => ⟨S4096x5, .f32⟩
  | .hbm, ⟨12, _⟩ => ⟨S4096x5, .f32⟩
  | .hbm, ⟨13, _⟩ => ⟨S1x5, .f32⟩
  | .hbm, ⟨14, _⟩ => ⟨S4096x5, .f32⟩
  | .hbm, ⟨15, _⟩ => ⟨S4096x5, .f32⟩
  | .hbm, ⟨16, _⟩ => ⟨S1x5, .f32⟩
  | .hbm, ⟨17, _⟩ => ⟨S3584x5, .f32⟩
  | .hbm, ⟨18, _⟩ => ⟨S3584x5, .f32⟩
  | .hbm, ⟨19, _⟩ => ⟨S1x5, .f32⟩
  | .hbm, ⟨20, _⟩ => ⟨S3584x5, .f32⟩
  | .hbm, ⟨21, _⟩ => ⟨S3584x5, .f32⟩
  | .hbm, ⟨22, _⟩ => ⟨S_, .f32⟩
  | .hbm, ⟨23, _⟩ => ⟨S512x5, .f32⟩
  | .hbm, ⟨24, _⟩ => ⟨S4096x5, .f32⟩
  | .hbm, ⟨25, _⟩ => ⟨S1x5, .f32⟩
  | .hbm, ⟨26, _⟩ => ⟨S3072x5, .f32⟩
  | .hbm, ⟨27, _⟩ => ⟨S3072x5, .f32⟩
  | .hbm, ⟨28, _⟩ => ⟨S1x5, .f32⟩
  | .hbm, ⟨29, _⟩ => ⟨S3072x5, .f32⟩
  | .hbm, ⟨30, _⟩ => ⟨S3072x5, .f32⟩
  | .hbm, ⟨31, _⟩ => ⟨S_, .f32⟩
  | .hbm, ⟨32, _⟩ => ⟨S1024x5, .f32⟩
  | .hbm, ⟨33, _⟩ => ⟨S4096x5, .f32⟩
  | .hbm, ⟨34, _⟩ => ⟨S1x5, .f32⟩
  | .hbm, ⟨35, _⟩ => ⟨S2560x5, .f32⟩
  | .hbm, ⟨36, _⟩ => ⟨S2560x5, .f32⟩
  | .hbm, ⟨37, _⟩ => ⟨S1x5, .f32⟩
  | .hbm, ⟨38, _⟩ => ⟨S2560x5, .f32⟩
  | .hbm, ⟨39, _⟩ => ⟨S2560x5, .f32⟩
  | .hbm, ⟨40, _⟩ => ⟨S_, .f32⟩
  | .hbm, ⟨41, _⟩ => ⟨S1536x5, .f32⟩
  | .hbm, ⟨42, _⟩ => ⟨S4096x5, .f32⟩
  | .hbm, ⟨43, _⟩ => ⟨S1x5, .f32⟩
  | .hbm, ⟨44, _⟩ => ⟨S2048x5, .f32⟩
  | .hbm, ⟨45, _⟩ => ⟨S2048x5, .f32⟩
  | .hbm, ⟨46, _⟩ => ⟨S1x5, .f32⟩
  | .hbm, ⟨47, _⟩ => ⟨S2048x5, .f32⟩
  | .hbm, ⟨48, _⟩ => ⟨S2048x5, .f32⟩
  | .hbm, ⟨49, _⟩ => ⟨S_, .f32⟩
  | .hbm, ⟨50, _⟩ => ⟨S2048x5, .f32⟩
  | .hbm, ⟨51, _⟩ => ⟨S4096x5, .f32⟩
  | .hbm, ⟨52, _⟩ => ⟨S1x5, .f32⟩
  | .hbm, ⟨53, _⟩ => ⟨S1536x5, .f32⟩
  | .hbm, ⟨54, _⟩ => ⟨S1536x5, .f32⟩
  | .hbm, ⟨55, _⟩ => ⟨S1x5, .f32⟩
  | .hbm, ⟨56, _⟩ => ⟨S1536x5, .f32⟩
  | .hbm, ⟨57, _⟩ => ⟨S1536x5, .f32⟩
  | .hbm, ⟨58, _⟩ => ⟨S_, .f32⟩
  | .hbm, ⟨59, _⟩ => ⟨S2560x5, .f32⟩
  | .hbm, ⟨60, _⟩ => ⟨S4096x5, .f32⟩
  | .hbm, ⟨61, _⟩ => ⟨S1x5, .f32⟩
  | .hbm, ⟨62, _⟩ => ⟨S1024x5, .f32⟩
  | .hbm, ⟨63, _⟩ => ⟨S1024x5, .f32⟩
  | .hbm, ⟨64, _⟩ => ⟨S1x5, .f32⟩
  | .hbm, ⟨65, _⟩ => ⟨S1024x5, .f32⟩
  | .hbm, ⟨66, _⟩ => ⟨S1024x5, .f32⟩
  | .hbm, ⟨67, _⟩ => ⟨S_, .f32⟩
  | .hbm, ⟨68, _⟩ => ⟨S3072x5, .f32⟩
  | .hbm, ⟨69, _⟩ => ⟨S4096x5, .f32⟩
  | .hbm, ⟨70, _⟩ => ⟨S1x5, .f32⟩
  | .hbm, ⟨71, _⟩ => ⟨S512x5, .f32⟩
  | .hbm, ⟨72, _⟩ => ⟨S512x5, .f32⟩
  | .hbm, ⟨73, _⟩ => ⟨S1x5, .f32⟩
  | .hbm, ⟨74, _⟩ => ⟨S512x5, .f32⟩
  | .hbm, ⟨75, _⟩ => ⟨S512x5, .f32⟩
  | .hbm, ⟨76, _⟩ => ⟨S_, .f32⟩
  | .hbm, ⟨77, _⟩ => ⟨S3584x5, .f32⟩
  | .hbm, ⟨78, _⟩ => ⟨S4096x5, .f32⟩
  | .hbm, ⟨79, _⟩ => ⟨S1x4096x5, .f32⟩
  | .hbm, ⟨80, _⟩ => ⟨S1x4096x5, .f32⟩
  | .hbm, ⟨81, _⟩ => ⟨S1x4096x5, .f32⟩
  | .hbm, ⟨82, _⟩ => ⟨S1x4096x5, .f32⟩
  | .hbm, ⟨83, _⟩ => ⟨S1x4096x5, .f32⟩
  | .hbm, ⟨84, _⟩ => ⟨S1x4096x5, .f32⟩
  | .hbm, ⟨85, _⟩ => ⟨S1x4096x5, .f32⟩
  | .hbm, ⟨86, _⟩ => ⟨S1x4096x5, .f32⟩
  | .hbm, ⟨87, _⟩ => ⟨S8x4096x5, .f32⟩
  | _, _ => ⟨S4096x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Proof.Spec.lean ====
/-
  What the padded batch holds, with no program in sight: a sequence of rows of five columns, each column shifted by its
  lower bound and scaled by the reciprocal of its range, then rows of minus one up to 4096.
-/
module

public import Idealize.ShloMosaic.Lib.Pointwise
public import Idealize.ShloMosaic.Lib.ValueIdx
public import Idealize.ShloMosaic.Lib.Pipeline.Value

@[expose] public section

noncomputable section

namespace Cert.Spec

open Idealize.ShloMosaic hiding ix2 ix3 eq_ix2 eq_ix3
open Idealize.ShloMosaic.ValueIdx (ix2 ix3 eq_ix2 eq_ix3)

/-- A sequence of `L` rows of five columns, as the programs hold it. -/
abbrev Rows (L : ℕ) : Shape := ⟨2, ![L, 5]⟩

/-- A block of `L` rows with a leading unit axis. -/
abbrev Block (L : ℕ) : Shape := ⟨3, ![1, L, 5]⟩

/-- The lower bound of each column: 0, -100, -100, -10, 0. Both programs spell them by these patterns. -/
def low (j : Fin 5) : EReal :=
  Ideal.ofBits .f32 ((![0x00000000#32, 0xC2C80000#32, 0xC2C80000#32, 0xC1200000#32, 0x00000000#32] : Fin 5 → BitVec 32) j)

/-- The range of each column: 1, 200, 200, 20, 255. -/
def range : Fin 5 → ℝ := ![1, 200, 200, 20, 255]

/-- The value that fills the rows behind a sequence's end. -/
def fill : EReal := Ideal.ofBits .f32 0xBF800000#32

/-- One entry of column `j`, shifted and scaled. -/
def scaled (x : EReal) (j : Fin 5) : EReal := (x - low j) * (((range j)⁻¹ : ℝ) : EReal)

/-- The padded sequence at row `r`, column `j`: the scaled entry while the sequence lasts, the fill value after it. -/
def padded {L : ℕ} (x : (Rows L).Idx → EReal) (r : Fin 4096) (j : Fin 5) : EReal :=
  if h : r.val < L then scaled (x (ix2 ⟨r.val, h⟩ j)) j else fill

/-- The whole batch: eight sequences of the eight lengths, padded and stacked. -/
def batch (x0 : (Rows 4096).Idx → EReal) (x1 : (Rows 3584).Idx → EReal) (x2 : (Rows 3072).Idx → EReal)
    (x3 : (Rows 2560).Idx → EReal) (x4 : (Rows 2048).Idx → EReal) (x5 : (Rows 1536).Idx → EReal)
    (x6 : (Rows 1024).Idx → EReal) (x7 : (Rows 512).Idx → EReal) (b : Fin 8) : Fin 4096 → Fin 5 → EReal :=
  match b with
  | 0 => padded x0
  | 1 => padded x1
  | 2 => padded x2
  | 3 => padded x3
  | 4 => padded x4
  | 5 => padded x5
  | 6 => padded x6
  | 7 => padded x7

/-- A sequence of full length has no fill rows. -/
theorem padded_full (x : (Rows 4096).Idx → EReal) (r : Fin 4096) (j : Fin 5) :
    padded x r j = scaled (x (ix2 r j)) j := dif_pos r.isLt

/-- No column's range is zero. -/
theorem range_ne_zero : ∀ j : Fin 5, range j ≠ 0 := by
  intro j
  fin_cases j <;> simp [range]

/-- Dividing by a column's range is multiplying by its reciprocal, infinite entries included. -/
theorem div_range (x : EReal) (j : Fin 5) :
    Ideal.div x ((range j : ℝ) : EReal) = x * (((range j)⁻¹ : ℝ) : EReal) := by
  rw [Ideal.div_coe (range_ne_zero j), one_div]

/-- The pattern of 200 denotes 200. -/
theorem ofBits_200 : Ideal.ofBits .f32 0x43480000#32 = ((200 : ℝ) : EReal) := by
  simp [Ideal.ofBits, Ideal.ieee, -EReal.coe_mul]; norm_num

/-- The pattern of 20 denotes 20. -/
theorem ofBits_20 : Ideal.ofBits .f32 0x41A00000#32 = ((20 : ℝ) : EReal) := by
  simp [Ideal.ofBits, Ideal.ieee, -EReal.coe_mul]; norm_num

/-- The pattern of 255 denotes 255. -/
theorem ofBits_255 : Ideal.ofBits .f32 0x437F0000#32 = ((255 : ℝ) : EReal) := by
  simp [Ideal.ofBits, Ideal.ieee, -EReal.coe_mul]; norm_num

/-- The pattern of 1 denotes 1. -/
theorem ofBits_1 : Ideal.ofBits .f32 0x3F800000#32 = ((1 : ℝ) : EReal) := by
  simp [Ideal.ofBits, Ideal.ieee, -EReal.coe_mul]; norm_num

end Cert.Spec
-- ==== Proof.Block.lean ====
/-
  What one grid point's stores leave in the output block, for a sequence of any length: the pieces' payloads at an index,
  and the two pieces read together.
-/
module

public import proofs.«01_k».proof.Proof.Spec
public import proofs.«01_k».proof.Proof.Gen.KernelIdeal.Frame
public import Idealize.ShloMosaic.Lib.WritesUnit

@[expose] public section

noncomputable section

namespace Cert.KernelIdeal.Blk

open Idealize.ShloMosaic hiding ix2 ix3 eq_ix2 eq_ix3
open Cert.Spec Cert.KernelIdeal.Gen
open Idealize.ShloMosaic.ValueIdx (ix2 ix3 eq_ix2 eq_ix3)

/-- The kernel's test of the column number against a constant, at a column. -/
theorem column_apply (k : BitVec 32) (z : Fin 1) (j : Fin 5) :
    cmpi .eq (iota .tc S1x5 32 [1] iota_S1x5_d1_w32) (broadcast S1x5 k) (ix2 z j)
      = Scalar.cmpi .eq (BitVec.ofNat 32 j.val) k :=
  congrArg (Scalar.cmpi .eq · k) (iota_single_apply .tc S1x5 32 1 iota_S1x5_d1_w32 (ix2 z j))

/-- The mask of the columns 1 and 2. -/
theorem mask_apply (z : Fin 1) (j : Fin 5) :
    k0_pay11 (ix2 z j) = if j = 1 ∨ j = 2 then 1#1 else 0#1 := by
  refine (congrArg₂ (· ||| ·) (column_apply 1#32 z j) (column_apply 2#32 z j)).trans ?_
  fin_cases j <;> decide

/-- The row of lower bounds the kernel selects by column number. -/
theorem lows_apply (z : Fin 1) (j : Fin 5) : k0_pay12 (F := Ideal) (ix2 z j) = low j := by
  show Scalar.select (k0_pay11 (ix2 z j)) _ (Scalar.select (cmpi .eq _ (broadcast S1x5 3#32) (ix2 z j)) _ _) = _
  rw [mask_apply, column_apply]
  fin_cases j <;> rfl

/-- `r200` denotes 1/200. -/
theorem named_200 : Named.named (F := Ideal) κ "r200" (φ := .f32) 0x3BA3D70A#32 = ((200⁻¹ : ℝ) : EReal) :=
  IdealRules.named_const.ideal_named_scalar _ _ _ _ rfl

/-- `r20` denotes 1/20. -/
theorem named_20 : Named.named (F := Ideal) κ "r20" (φ := .f32) 0x3D4CCCCD#32 = ((20⁻¹ : ℝ) : EReal) :=
  IdealRules.named_const.ideal_named_scalar _ _ _ _ rfl

/-- `r255` denotes 1/255. -/
theorem named_255 : Named.named (F := Ideal) κ "r255" (φ := .f32) 0x3B808081#32 = ((255⁻¹ : ℝ) : EReal) :=
  IdealRules.named_const.ideal_named_scalar _ _ _ _ rfl

/-- The row of reciprocals the kernel selects by column number. -/
theorem recips_apply (z : Fin 1) (j : Fin 5) :
    k0_pay13 (F := Ideal) (ix2 z j) = (((range j)⁻¹ : ℝ) : EReal) := by
  show Scalar.select (k0_pay11 (ix2 z j)) (Named.named (F := Ideal) κ "r200" (φ := .f32) 0x3BA3D70A#32)
    (Scalar.select (cmpi .eq _ (broadcast S1x5 3#32) (ix2 z j))
      (Named.named (F := Ideal) κ "r20" (φ := .f32) 0x3D4CCCCD#32)
      (Scalar.select (cmpi .eq _ (broadcast S1x5 4#32) (ix2 z j))
        (Named.named (F := Ideal) κ "r255" (φ := .f32) 0x3B808081#32) (Ideal.ofBits .f32 0x3F800000#32))) = _
  rw [mask_apply, column_apply, column_apply, named_200, named_20, named_255, ofBits_1]
  fin_cases j
  · show ((1 : ℝ) : EReal) = (((1 : ℝ)⁻¹ : ℝ) : EReal)
    rw [inv_one]
  all_goals rfl

/-- The block of scaled rows stored for a sequence of `L` rows, at an index. -/
theorem data_apply {L : ℕ} (hb : (Rows 1).Broadcasts (Rows L)) (hs : (Rows L).ShapeCasts (Block L))
    (x : (Rows L).Idx → EReal) (z : Fin 1) (r : Fin L) (j : Fin 5) :
    shapeCast (Block L) (mulf (F := Ideal) (φ := .f32) (subf (F := Ideal) (φ := .f32) x (broadcastTo (Rows L) (k0_pay12 (F := Ideal)) hb))
      (broadcastTo (Rows L) (k0_pay13 (F := Ideal)) hb)) hs (ix3 z r j) = scaled (x (ix2 r j)) j := by
  have hi : (fun a : Fin 2 => (ix3 z r j : (Block L).Idx) a.succ) = (ix2 r j : (Rows L).Idx) := by
    funext a; fin_cases a <;> rfl
  have hk : ∀ v : (Rows 1).Idx → EReal, broadcastTo (Rows L) v hb (ix2 r j) = v (ix2 (0 : Fin 1) j) := fun v =>
    broadcastTo_apply v hb _ _ (by intro a; fin_cases a <;> rfl)
  rw [shapeCast_addUnit_apply (![L, 5]) _ hs]
  refine (congrArg _ hi).trans ?_
  rw [ValueIdx.mulf_apply, ValueIdx.subf_apply, hk, hk, lows_apply, recips_apply]
  rfl

variable {sig : RefSig} {κ' : Kind} {sp : Space}

/-- Two stores — the scaled rows at row 0, then the fill rows behind them at row `L` — leave the padded sequence. -/
theorem read_two {L P : ℕ} (hLP : L + P = 4096) (v : View sig κ' sp (Block 4096) .f32)
    (f : v.ty.Contents (Elt Ideal)) (x : (Rows L).Idx → EReal)
    (inb : ∀ a, (![0, 0, 0] : Fin 3 → ℕ) a + (Block L).size a ≤ (Block 4096).size a)
    (inb' : ∀ a, (![0, L, 0] : Fin 3 → ℕ) a + (Block P).size a ≤ (Block 4096).size a)
    (w : (Block L).Idx → EReal) (hw : ∀ z r j, w (ix3 z r j) = scaled (x (ix2 r j)) j)
    (w' : (Block P).Idx → EReal) (hw' : ∀ i, w' i = fill) (z : Fin 1) (r : Fin 4096) (j : Fin 5) :
    v.read (Elt Ideal) (v.writes (Elt Ideal) f
      [⟨Rect.unit (s := Block 4096) ![0, L, 0] (Block P).size inb', w'⟩,
       ⟨Rect.unit (s := Block 4096) ![0, 0, 0] (Block L).size inb, w⟩]) (ix3 z r j) = padded x r j := by
  have hz : z.val = 0 := by omega
  unfold padded
  by_cases h : r.val < L
  · rw [dif_pos h, View.read_writes_cons_unit_of_not_mem v f inb' w' _ _ rfl (1 : Fin 3) (.inl h),
      View.read_writes_cons_unit_of_mem v f inb w [] (ix3 z r j) (ix3 (0 : Fin 1) (⟨r.val, h⟩ : Fin L) j) rfl ?_]
    · exact hw _ _ _
    · intro a
      fin_cases a
      · exact hz
      · exact (Nat.zero_add _).symm
      · exact (Nat.zero_add _).symm
  · rw [dif_neg h, View.read_writes_cons_unit_of_mem v f inb' w' _ (ix3 z r j)
      (ix3 (0 : Fin 1) (⟨r.val - L, by omega⟩ : Fin P) j) rfl ?_]
    · exact hw' _
    · intro a
      fin_cases a
      · exact hz
      · show r.val = L + (r.val - L); omega
      · exact (Nat.zero_add _).symm

/-- One store of a full-length sequence leaves the padded sequence: there is nothing to fill. -/
theorem read_one (v : View sig κ' sp (Block 4096) .f32) (f : v.ty.Contents (Elt Ideal)) (x : (Rows 4096).Idx → EReal)
    (inb : ∀ a, (![0, 0, 0] : Fin 3 → ℕ) a + (Block 4096).size a ≤ (Block 4096).size a)
    (w : (Block 4096).Idx → EReal) (hw : ∀ z r j, w (ix3 z r j) = scaled (x (ix2 r j)) j)
    (z : Fin 1) (r : Fin 4096) (j : Fin 5) :
    v.read (Elt Ideal) (v.writes (Elt Ideal) f
      [⟨Rect.unit (s := Block 4096) ![0, 0, 0] (Block 4096).size inb, w⟩]) (ix3 z r j) = padded x r j := by
  unfold padded
  rw [dif_pos r.isLt, View.read_writes_cons_unit_of_mem v f inb w [] (ix3 z r j) (ix3 z r j) rfl
    (by intro a; fin_cases a <;> exact (Nat.zero_add _).symm)]
  exact hw _ _ _

end Cert.KernelIdeal.Blk
-- ==== Proof.Out.lean ====
/-
  What each of the eight cases of the kernel's body leaves in the output block: the padded sequence of that grid point.
-/
module

public import proofs.«01_k».proof.Proof.Block
public import Idealize.ShloMosaic.Lib.WholeRead

@[expose] public section

noncomputable section

namespace Cert.KernelIdeal.Blk

open Idealize.ShloMosaic hiding ix2 ix3 eq_ix2 eq_ix3
open Cert.Spec Cert.KernelIdeal.Gen
open Idealize.ShloMosaic.ValueIdx (ix2 ix3 eq_ix2 eq_ix3)

/-- A load of a whole input buffer reads what the buffer holds. -/
theorem load_whole {L : ℕ} {mr : Memref sig .tc .vmem (Rows L) .f32} (h : mr.IsWhole) (x : (Rows L).Idx → EReal)
    (inb : ∀ a, (![0, 0] : Fin 2 → ℕ) a + (Rows L).size a ≤ (Rows L).size a) :
    mr.view.readAt (Elt Ideal) (Rect.unit (s := Rows L) ![0, 0] (Rows L).size inb).toLoadRect (h.unread x) = x := by
  refine (congrArg (fun y => View.ld (Val := Elt Ideal) y (Rect.unit (s := Rows L) ![0, 0] (Rows L).size inb)) (h.read_unread (Val := Elt Ideal) x)).trans ?_
  exact View.ld_unit_zero (S := Rows L) (Val := Elt Ideal) (e := .f32) (by funext a; fin_cases a <;> rfl) inb x

variable (c : Dev nD) (i : grid0.Coords)
    (arg1 : Memref sig .tc .vmem S4096x5 .f32) (harg1 : arg1.IsWhole)
    (arg2 : Memref sig .tc .vmem S3584x5 .f32) (harg2 : arg2.IsWhole)
    (arg3 : Memref sig .tc .vmem S3072x5 .f32) (harg3 : arg3.IsWhole)
    (arg4 : Memref sig .tc .vmem S2560x5 .f32) (harg4 : arg4.IsWhole)
    (arg5 : Memref sig .tc .vmem S2048x5 .f32) (harg5 : arg5.IsWhole)
    (arg6 : Memref sig .tc .vmem S1536x5 .f32) (harg6 : arg6.IsWhole)
    (arg7 : Memref sig .tc .vmem S1024x5 .f32) (harg7 : arg7.IsWhole)
    (arg8 : Memref sig .tc .vmem S512x5 .f32) (harg8 : arg8.IsWhole)
    (arg9 : Memref sig .tc .vmem S1x4096x5 .f32) (harg9 : arg9.IsWhole)
    (x0 : Vec Ideal S4096x5 .f32)
    (x1 : Vec Ideal S3584x5 .f32)
    (x2 : Vec Ideal S3072x5 .f32)
    (x3 : Vec Ideal S2560x5 .f32)
    (x4 : Vec Ideal S2048x5 .f32)
    (x5 : Vec Ideal S1536x5 .f32)
    (x6 : Vec Ideal S1024x5 .f32)
    (x7 : Vec Ideal S512x5 .f32)
    (z : Fin 1) (r : Fin 4096) (j : Fin 5)

/-- Case A: the block holds sequence 0, of 4096 rows, padded. -/
theorem outA (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) :
    out0_A_8 c i arg1 harg1 arg2 harg2 arg3 harg3 arg4 harg4 arg5 harg5 arg6 harg6 arg7 harg7 arg8 harg8 arg9 harg9
      hc0 hc1 hc2 hc3 hc4 hc5 hc6 hc7 x0 x1 x2 x3 x4 x5 x6 x7 (ix3 z r j) = padded x0 r j := by
  unfold out0_A_8 kernelRun0_A
  dsimp only
  exact read_one VO0_8 _ x0 _ _ (fun z r j => (data_apply _ _ _ z r j).trans
    (by rw [load_whole])) z r j

/-- Case B: the block holds sequence 1, of 3584 rows, padded. -/
theorem outB (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) :
    out0_B_8 c i arg1 harg1 arg2 harg2 arg3 harg3 arg4 harg4 arg5 harg5 arg6 harg6 arg7 harg7 arg8 harg8 arg9 harg9
      hc0 hc1 hc2 hc3 hc4 hc5 hc6 hc7 x0 x1 x2 x3 x4 x5 x6 x7 (ix3 z r j) = padded x1 r j := by
  unfold out0_B_8 kernelRun0_B
  dsimp only
  exact read_two (L := 3584) (P := 512) rfl VO0_8 _ x1 _ _ _ (fun z r j => (data_apply _ _ _ z r j).trans
    (by rw [load_whole])) _ (fun _ => rfl) z r j

/-- Case C: the block holds sequence 2, of 3072 rows, padded. -/
theorem outC (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) :
    out0_C_8 c i arg1 harg1 arg2 harg2 arg3 harg3 arg4 harg4 arg5 harg5 arg6 harg6 arg7 harg7 arg8 harg8 arg9 harg9
      hc0 hc1 hc2 hc3 hc4 hc5 hc6 hc7 x0 x1 x2 x3 x4 x5 x6 x7 (ix3 z r j) = padded x2 r j := by
  unfold out0_C_8 kernelRun0_C
  dsimp only
  exact read_two (L := 3072) (P := 1024) rfl VO0_8 _ x2 _ _ _ (fun z r j => (data_apply _ _ _ z r j).trans
    (by rw [load_whole])) _ (fun _ => rfl) z r j

/-- Case D: the block holds sequence 3, of 2560 rows, padded. -/
theorem outD (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) :
    out0_D_8 c i arg1 harg1 arg2 harg2 arg3 harg3 arg4 harg4 arg5 harg5 arg6 harg6 arg7 harg7 arg8 harg8 arg9 harg9
      hc0 hc1 hc2 hc3 hc4 hc5 hc6 hc7 x0 x1 x2 x3 x4 x5 x6 x7 (ix3 z r j) = padded x3 r j := by
  unfold out0_D_8 kernelRun0_D
  dsimp only
  exact read_two (L := 2560) (P := 1536) rfl VO0_8 _ x3 _ _ _ (fun z r j => (data_apply _ _ _ z r j).trans
    (by rw [load_whole])) _ (fun _ => rfl) z r j

/-- Case E: the block holds sequence 4, of 2048 rows, padded. -/
theorem outE (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) :
    out0_E_8 c i arg1 harg1 arg2 harg2 arg3 harg3 arg4 harg4 arg5 harg5 arg6 harg6 arg7 harg7 arg8 harg8 arg9 harg9
      hc0 hc1 hc2 hc3 hc4 hc5 hc6 hc7 x0 x1 x2 x3 x4 x5 x6 x7 (ix3 z r j) = padded x4 r j := by
  unfold out0_E_8 kernelRun0_E
  dsimp only
  exact read_two (L := 2048) (P := 2048) rfl VO0_8 _ x4 _ _ _ (fun z r j => (data_apply _ _ _ z r j).trans
    (by rw [load_whole])) _ (fun _ => rfl) z r j

/-- Case F: the block holds sequence 5, of 1536 rows, padded. -/
theorem outF (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) :
    out0_F_8 c i arg1 harg1 arg2 harg2 arg3 harg3 arg4 harg4 arg5 harg5 arg6 harg6 arg7 harg7 arg8 harg8 arg9 harg9
      hc0 hc1 hc2 hc3 hc4 hc5 hc6 hc7 x0 x1 x2 x3 x4 x5 x6 x7 (ix3 z r j) = padded x5 r j := by
  unfold out0_F_8 kernelRun0_F
  dsimp only
  exact read_two (L := 1536) (P := 2560) rfl VO0_8 _ x5 _ _ _ (fun z r j => (data_apply _ _ _ z r j).trans
    (by rw [load_whole])) _ (fun _ => rfl) z r j

/-- Case G: the block holds sequence 6, of 1024 rows, padded. -/
theorem outG (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) :
    out0_G_8 c i arg1 harg1 arg2 harg2 arg3 harg3 arg4 harg4 arg5 harg5 arg6 harg6 arg7 harg7 arg8 harg8 arg9 harg9
      hc0 hc1 hc2 hc3 hc4 hc5 hc6 hc7 x0 x1 x2 x3 x4 x5 x6 x7 (ix3 z r j) = padded x6 r j := by
  unfold out0_G_8 kernelRun0_G
  dsimp only
  exact read_two (L := 1024) (P := 3072) rfl VO0_8 _ x6 _ _ _ (fun z r j => (data_apply _ _ _ z r j).trans
    (by rw [load_whole])) _ (fun _ => rfl) z r j

/-- Case H: the block holds sequence 7, of 512 rows, padded. -/
theorem outH (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) :
    out0_H_8 c i arg1 harg1 arg2 harg2 arg3 harg3 arg4 harg4 arg5 harg5 arg6 harg6 arg7 harg7 arg8 harg8 arg9 harg9
      hc0 hc1 hc2 hc3 hc4 hc5 hc6 hc7 x0 x1 x2 x3 x4 x5 x6 x7 (ix3 z r j) = padded x7 r j := by
  unfold out0_H_8 kernelRun0_H
  dsimp only
  exact read_two (L := 512) (P := 3584) rfl VO0_8 _ x7 _ _ _ (fun z r j => (data_apply _ _ _ z r j).trans
    (by rw [load_whole])) _ (fun _ => rfl) z r j

end Cert.KernelIdeal.Blk
-- ==== Proof.Arr.lean ====
/-
  What the output array holds after the run: each grid point's block, laid at that point's place on the leading axis.
-/
module

public import proofs.«01_k».proof.Proof.Out
public import proofs.«01_k».proof.Proof.Gen.KernelIdeal.Value

@[expose] public section

noncomputable section

namespace Cert.KernelIdeal.Arr

open Idealize.ShloMosaic hiding ix2 ix3 eq_ix2 eq_ix3
open Idealize.ShloMosaic.TcCoe
open Cert.Spec Cert.KernelIdeal.Gen Cert.KernelIdeal.Blk Cert.KernelIdeal.Value
open Idealize.ShloMosaic.ValueIdx (ix2 ix3 eq_ix2 eq_ix3)

variable (m : (ℓ : Loc nD τ sig) → Buf (Elt Ideal) ℓ) (c : Dev nD)

/-- At every grid point input 0's block is the whole argument. -/
theorem input0 (t : Fin cfg0.N) :
    (iblk m c 0 t : (Rows 4096).Idx → EReal) = m ((c : Thread nD τ).loc main_arg0) :=
  funext fun y => congrArg (m ((c : Thread nD τ).loc main_arg0))
    (funext fun a => Fin.ext ((cfg0.win 0).rect_emb_val_of_index_zero t a (by fin_cases a <;> rfl) y))

/-- At every grid point input 1's block is the whole argument. -/
theorem input1 (t : Fin cfg0.N) :
    (iblk m c 1 t : (Rows 3584).Idx → EReal) = m ((c : Thread nD τ).loc main_arg1) :=
  funext fun y => congrArg (m ((c : Thread nD τ).loc main_arg1))
    (funext fun a => Fin.ext ((cfg0.win 1).rect_emb_val_of_index_zero t a (by fin_cases a <;> rfl) y))

/-- At every grid point input 2's block is the whole argument. -/
theorem input2 (t : Fin cfg0.N) :
    (iblk m c 2 t : (Rows 3072).Idx → EReal) = m ((c : Thread nD τ).loc main_arg2) :=
  funext fun y => congrArg (m ((c : Thread nD τ).loc main_arg2))
    (funext fun a => Fin.ext ((cfg0.win 2).rect_emb_val_of_index_zero t a (by fin_cases a <;> rfl) y))

/-- At every grid point input 3's block is the whole argument. -/
theorem input3 (t : Fin cfg0.N) :
    (iblk m c 3 t : (Rows 2560).Idx → EReal) = m ((c : Thread nD τ).loc main_arg3) :=
  funext fun y => congrArg (m ((c : Thread nD τ).loc main_arg3))
    (funext fun a => Fin.ext ((cfg0.win 3).rect_emb_val_of_index_zero t a (by fin_cases a <;> rfl) y))

/-- At every grid point input 4's block is the whole argument. -/
theorem input4 (t : Fin cfg0.N) :
    (iblk m c 4 t : (Rows 2048).Idx → EReal) = m ((c : Thread nD τ).loc main_arg4) :=
  funext fun y => congrArg (m ((c : Thread nD τ).loc main_arg4))
    (funext fun a => Fin.ext ((cfg0.win 4).rect_emb_val_of_index_zero t a (by fin_cases a <;> rfl) y))

/-- At every grid point input 5's block is the whole argument. -/
theorem input5 (t : Fin cfg0.N) :
    (iblk m c 5 t : (Rows 1536).Idx → EReal) = m ((c : Thread nD τ).loc main_arg5) :=
  funext fun y => congrArg (m ((c : Thread nD τ).loc main_arg5))
    (funext fun a => Fin.ext ((cfg0.win 5).rect_emb_val_of_index_zero t a (by fin_cases a <;> rfl) y))

/-- At every grid point input 6's block is the whole argument. -/
theorem input6 (t : Fin cfg0.N) :
    (iblk m c 6 t : (Rows 1024).Idx → EReal) = m ((c : Thread nD τ).loc main_arg6) :=
  funext fun y => congrArg (m ((c : Thread nD τ).loc main_arg6))
    (funext fun a => Fin.ext ((cfg0.win 6).rect_emb_val_of_index_zero t a (by fin_cases a <;> rfl) y))

/-- At every grid point input 7's block is the whole argument. -/
theorem input7 (t : Fin cfg0.N) :
    (iblk m c 7 t : (Rows 512).Idx → EReal) = m ((c : Thread nD τ).loc main_arg7) :=
  funext fun y => congrArg (m ((c : Thread nD τ).loc main_arg7))
    (funext fun a => Fin.ext ((cfg0.win 7).rect_emb_val_of_index_zero t a (by fin_cases a <;> rfl) y))

/-- Grid point `t` writes block `t` on the leading axis. -/
theorem index_lead (t : Fin cfg0.N) : (cfg0.win 8).index t (0 : Fin 3) = t.val := by
  revert t; decide +kernel

/-- Row `r`, column `j` of the block of point `t` sits at `(t, r, j)` of the array. -/
theorem place (t : Fin 8) (r : Fin 4096) (j : Fin 5) :
    ((cfg0.win 8).blk t).view.emb (ix3 (0 : Fin 1) r j) = (ix3 t r j : S8x4096x5.Idx) := by
  funext a
  refine Fin.ext (((cfg0.win 8).rect_emb_val t (ix3 (0 : Fin 1) r j) a).trans ?_)
  fin_cases a
  · show (cfg0.win 8).index t (0 : Fin 3) * 1 + 0 = t.val
    exact (Nat.add_zero _).trans ((Nat.mul_one _).trans (index_lead t))
  · show 0 * 4096 + r.val = r.val
    omega
  · show 0 * 5 + j.val = j.val
    omega

/-- Equal sequences are equal when padded. -/
theorem padded_congr {L : ℕ} {x y : (Rows L).Idx → EReal} (h : x = y) (r : Fin 4096) (j : Fin 5) :
    padded x r j = padded y r j := by rw [h]

/-- What a grid point writes back, at an index: the padded sequence of that point. -/
theorem flushed_apply (t : Fin 8) (r : Fin 4096) (j : Fin 5) :
    (dats m 0 c).flushed 8 t (ix3 (0 : Fin 1) r j) = batch
      (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) t r j := by
  fin_cases t
  · have h := padded_congr (L := 4096) (input0 m c (0 : Fin 8)) r j
    exact (congrFun (flushed8_A m c (0 : Fin 8) rfl (by decide) (by decide) (by decide) (by decide) (by decide) (by decide) (by decide)) _).trans
      ((outA (c := c) (z := 0) (r := r) (j := j) ..).trans h)
  · have h := padded_congr (L := 3584) (input1 m c (1 : Fin 8)) r j
    exact (congrFun (flushed8_B m c (1 : Fin 8) (by decide) rfl (by decide) (by decide) (by decide) (by decide) (by decide) (by decide)) _).trans
      ((outB (c := c) (z := 0) (r := r) (j := j) ..).trans h)
  · have h := padded_congr (L := 3072) (input2 m c (2 : Fin 8)) r j
    exact (congrFun (flushed8_C m c (2 : Fin 8) (by decide) (by decide) rfl (by decide) (by decide) (by decide) (by decide) (by decide)) _).trans
      ((outC (c := c) (z := 0) (r := r) (j := j) ..).trans h)
  · have h := padded_congr (L := 2560) (input3 m c (3 : Fin 8)) r j
    exact (congrFun (flushed8_D m c (3 : Fin 8) (by decide) (by decide) (by decide) rfl (by decide) (by decide) (by decide) (by decide)) _).trans
      ((outD (c := c) (z := 0) (r := r) (j := j) ..).trans h)
  · have h := padded_congr (L := 2048) (input4 m c (4 : Fin 8)) r j
    exact (congrFun (flushed8_E m c (4 : Fin 8) (by decide) (by decide) (by decide) (by decide) rfl (by decide) (by decide) (by decide)) _).trans
      ((outE (c := c) (z := 0) (r := r) (j := j) ..).trans h)
  · have h := padded_congr (L := 1536) (input5 m c (5 : Fin 8)) r j
    exact (congrFun (flushed8_F m c (5 : Fin 8) (by decide) (by decide) (by decide) (by decide) (by decide) rfl (by decide) (by decide)) _).trans
      ((outF (c := c) (z := 0) (r := r) (j := j) ..).trans h)
  · have h := padded_congr (L := 1024) (input6 m c (6 : Fin 8)) r j
    exact (congrFun (flushed8_G m c (6 : Fin 8) (by decide) (by decide) (by decide) (by decide) (by decide) (by decide) rfl (by decide)) _).trans
      ((outG (c := c) (z := 0) (r := r) (j := j) ..).trans h)
  · have h := padded_congr (L := 512) (input7 m c (7 : Fin 8)) r j
    exact (congrFun (flushed8_H m c (7 : Fin 8) (by decide) (by decide) (by decide) (by decide) (by decide) (by decide) (by decide) rfl) _).trans
      ((outH (c := c) (z := 0) (r := r) (j := j) ..).trans h)

/-- The kernel's output array at an index is the batch of the padded sequences. -/
theorem result_apply (b : Fin 8) (r : Fin 4096) (j : Fin 5) :
    (dats m 0 c).arrAt 8 cfg0.N (ix3 b r j : S8x4096x5.Idx) = batch
      (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) b r j := by
  have h := (dats m 0 c).arrAt_emb_eq_flushed 8 disjoint8 b (flush0_8 b) (ix3 (0 : Fin 1) r j)
  rw [place] at h
  exact h.trans (flushed_apply m c b r j)

end Cert.KernelIdeal.Arr
-- ==== Proof.Ref.lean ====
/-
  What the reference computes, read at an index: the quotient of one sequence, the rows laid behind it, and the stack.
-/
module

public import proofs.«01_k».proof.Proof.Spec
public import proofs.«01_k».proof.Proof.Gen.ReferenceIdeal.Run
public import Idealize.ShloMosaic.Lib.IdealHost

@[expose] public section

noncomputable section

namespace Cert.ReferenceIdeal.Ref

open Idealize.ShloMosaic hiding ix1 ix2 ix3 eq_ix1 eq_ix2 eq_ix3
open Cert.Spec
open Idealize.ShloMosaic.ValueIdx (ix1 ix2 ix3 eq_ix1 eq_ix2 eq_ix3)

/-- The reference's table of lower bounds, by column. -/
theorem lows_apply (i : S5.Idx) : Ideal.ofBits .f32 (lit0 (S5.rowMajor i)) = low (i 0) := by
  obtain ⟨j, rfl⟩ : ∃ j : Fin 5, i = ix1 j := ⟨i 0, eq_ix1 i⟩
  fin_cases j <;> rfl

/-- The reference's table of ranges, by column. -/
theorem ranges_apply (i : S5.Idx) : Ideal.ofBits .f32 (lit1 (S5.rowMajor i)) = ((range (i 0) : ℝ) : EReal) := by
  obtain ⟨j, rfl⟩ : ∃ j : Fin 5, i = ix1 j := ⟨i 0, eq_ix1 i⟩
  fin_cases j
  · exact ofBits_1
  · exact ofBits_200
  · exact ofBits_200
  · exact ofBits_20
  · exact ofBits_255

/-- A table of five entries laid along every row of a sequence reads the column's entry. -/
theorem table_apply {L : ℕ} (h1 : S5.BroadcastsInDim S1x5 ![1]) (h2 : S1x5.BroadcastsInDim (Rows L) ![0, 1])
    (v : S5.Idx → EReal) (r : Fin L) (j : Fin 5) :
    broadcastInDim (Rows L) ![0, 1] h2 (broadcastInDim S1x5 ![1] h1 v) (ix2 r j) = v (ix1 j) := by
  rw [broadcastInDim_apply _ h2 _ _ (ix2 (0 : Fin 1) j) (by intro a; fin_cases a <;> rfl),
    broadcastInDim_apply _ h1 _ _ (ix1 j) (by intro a; fin_cases a; rfl)]

/-- One sequence less its lower bounds, divided by its ranges, is the scaled sequence. -/
theorem quotient_apply {L : ℕ} (h1 : S5.BroadcastsInDim S1x5 ![1]) (h2 : S1x5.BroadcastsInDim (Rows L) ![0, 1])
    (x : (Rows L).Idx → EReal) (r : Fin L) (j : Fin 5) :
    Host.divf (F := Ideal) (φ := .f32)
      (subf (F := Ideal) (φ := .f32) x (broadcastInDim (Rows L) ![0, 1] h2
        (broadcastInDim S1x5 ![1] h1 (fun i => Ideal.ofBits .f32 (lit0 (S5.rowMajor i))))))
      (broadcastInDim (Rows L) ![0, 1] h2
        (broadcastInDim S1x5 ![1] h1 (fun i => Ideal.ofBits .f32 (lit1 (S5.rowMajor i))))) (ix2 r j)
      = scaled (x (ix2 r j)) j := by
  rw [ValueIdx.hostDivf_apply, ValueIdx.subf_apply, table_apply, table_apply, lows_apply, ranges_apply, div_range]
  rfl

/-- A scaled sequence with `P` fill rows laid behind it is the padded sequence. -/
theorem pad_apply {L P : ℕ} (hLP : L + P = 4096) (x : (Rows L).Idx → EReal) (y : (Rows L).Idx → EReal)
    (hy : ∀ r j, y (ix2 r j) = scaled (x (ix2 r j)) j) (y' : (Rows P).Idx → EReal) (hy' : ∀ i, y' i = fill)
    (h : Shape.Concatenates [Rows L, Rows P] (Rows 4096) 0) (r : Fin 4096) (j : Fin 5) :
    concatenate (Rows 4096) 0 [⟨Rows L, y⟩, ⟨Rows P, y'⟩] h (ix2 r j) = padded x r j := by
  unfold padded
  by_cases hr : r.val < L
  · rw [dif_pos hr, concatenate_pair_apply_left (t := Rows 4096) 0 y y' h (ix2 r j) rfl (ix2 (⟨r.val, hr⟩ : Fin L) j)
      (by intro a; fin_cases a <;> rfl)]
    exact hy _ _
  · rw [dif_neg hr, concatenate_pair_apply_right (t := Rows 4096) 0 y y' h (ix2 r j) rfl rfl
      (ix2 (⟨r.val - L, by omega⟩ : Fin P) j)
      (by
        intro a ha
        fin_cases a
        · exact absurd rfl ha
        · rfl)
      (by show r.val - L + L = r.val; omega)]
    exact hy' _

/-- Eight padded sequences stacked along a new leading axis read the sequence that axis names. -/
theorem stack_apply (y0 y1 y2 y3 y4 y5 y6 y7 : (Rows 4096).Idx → EReal)
    (hb : (Rows 4096).BroadcastsInDim (Block 4096) ![1, 2])
    (h : Shape.Concatenates [Block 4096, Block 4096, Block 4096, Block 4096, Block 4096, Block 4096, Block 4096,
      Block 4096] S8x4096x5 0) (b : Fin 8) (r : Fin 4096) (j : Fin 5) :
    concatenate S8x4096x5 0
      [⟨Block 4096, broadcastInDim (Block 4096) ![1, 2] hb y0⟩, ⟨Block 4096, broadcastInDim (Block 4096) ![1, 2] hb y1⟩,
       ⟨Block 4096, broadcastInDim (Block 4096) ![1, 2] hb y2⟩, ⟨Block 4096, broadcastInDim (Block 4096) ![1, 2] hb y3⟩,
       ⟨Block 4096, broadcastInDim (Block 4096) ![1, 2] hb y4⟩, ⟨Block 4096, broadcastInDim (Block 4096) ![1, 2] hb y5⟩,
       ⟨Block 4096, broadcastInDim (Block 4096) ![1, 2] hb y6⟩, ⟨Block 4096, broadcastInDim (Block 4096) ![1, 2] hb y7⟩]
      h (ix3 b r j)
      = (![y0, y1, y2, y3, y4, y5, y6, y7] : Fin 8 → (Rows 4096).Idx → EReal) b (ix2 r j) := by
  refine Eq.trans (concatenate_apply_piece (t := S8x4096x5) 0 _ (by exact h) (ix3 b r j) b.val (by exact b.isLt) (Block 4096)
    (broadcastInDim (Block 4096) ![1, 2] hb
      ((![y0, y1, y2, y3, y4, y5, y6, y7] : Fin 8 → (Rows 4096).Idx → EReal) b))
    (by fin_cases b <;> rfl) rfl b.val (by fin_cases b <;> rfl) (ix3 (0 : Fin 1) r j)
    (by
      intro a ha
      fin_cases a
      · exact absurd rfl ha
      · rfl
      · rfl)
    rfl) ?_
  exact broadcastInDim_apply _ hb _ _ _ (by intro a; fin_cases a <;> rfl)

/-- The reference's result at an index is the batch of the padded sequences. -/
theorem result_apply (m : (ℓ : Loc nD τ sig) → Buf (Elt Ideal) ℓ) (c : Dev nD) (b : Fin 8) (r : Fin 4096) (j : Fin 5) :
    Cert.ReferenceIdeal.Value.res_main_v70 (F := Ideal) m c (ix3 b r j) = batch
      (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) b r j := by
  unfold Cert.ReferenceIdeal.Value.res_main_v70
  refine Eq.trans (stack_apply _ _ _ _ _ _ _ _ _ _ b r j) ?_
  fin_cases b
  · exact (quotient_apply _ _ _ r j).trans (padded_full _ r j).symm
  all_goals exact pad_apply rfl _ _ (quotient_apply _ _ _) _ (fun _ => rfl) (by decide) r j

end Cert.ReferenceIdeal.Ref
-- ==== Proof.lean ====
/-
  The proof of `Cert.Claim`: the kernel as written, its ideal form and the reference run from any start and keep their
  arguments; the named constants are the numbers the kernel's literals stand for; and the ideal kernel's array is the
  reference's. Modules: `Spec` (what the padded batch holds), `Block` (one grid point's stores, for any length), `Out` (the
  eight cases of the body), `Arr` (the array after the run), `Ref` (the reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.KernelIdeal.Value
public import proofs.«01_k».proof.Proof.Gen.ReferenceIdeal.Run
public import Idealize.ShloMosaic.Init
public import Idealize.ShloMosaic.Lib.Quiescent
public import proofs.«01_k».proof.Proof.Arr
public import proofs.«01_k».proof.Proof.Ref

@[expose] public section

noncomputable section

namespace Cert.Proof

open Idealize.ShloMosaic Idealize.SL.Sem

/-- The reference runs from any start, ends with no semaphore held, and keeps its arguments. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The three named constants denote the reciprocals the kernel's literals round. -/
theorem constants : Cert.preserves_Kernel_KernelIdeal :=
  ⟨IdealRules.named_const.statement Cert.KernelIdeal.κ "r255" .f32 0x3B808081#32 _ rfl,
    IdealRules.named_const.statement Cert.KernelIdeal.κ "r20" .f32 0x3D4CCCCD#32 _ rfl,
    IdealRules.named_const.statement Cert.KernelIdeal.κ "r200" .f32 0x3BA3D70A#32 _ rfl⟩

/-- The ideal kernel leaves in its output exactly what the reference leaves in its own. -/
theorem same_array : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  funext i
  rw [ValueIdx.eq_ix3 (n0 := 8) (n1 := 4096) (n2 := 5) i]
  refine (Cert.ReferenceIdeal.Ref.result_apply m' c _ _ _).trans
    (Eq.trans ?_ (Cert.KernelIdeal.Arr.result_apply m c _ _ _).symm)
  rw [h0, h1, h2, h3, h4, h5, h6, h7]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, constants,
  same_array⟩

end Cert.Proof

end
